-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_decided [hKernelIdeal : Cert.KernelIdeal.Facts] [hReferenceIdeal : Cert.ReferenceIdeal.Facts] [hOn_decided : Cert.On_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 4096]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v1_0) i = v0 c i)
          ∧ (∀ i : (⟨2, ![8192, 4]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v1_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 4096]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v12) i = v0 c i)
          ∧ (∀ i : (⟨2, ![8192, 4]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v15) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_decided : Cert.On_decided.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_decided (hKernelIdeal := hKernelIdeal) (hReferenceIdeal := hReferenceIdeal) (hOn_decided := hOn_decided)
-- ==== On_decided.lean ====
abbrev S4x2048x4096 : Shape := ⟨3, ![4, 2048, 4096]⟩
abbrev S4096x8 : Shape := ⟨2, ![4096, 8]⟩
abbrev S4x2048x8 : Shape := ⟨3, ![4, 2048, 8]⟩
abbrev S_ : Shape := ⟨0, ![]⟩
abbrev S4x2048 : Shape := ⟨2, ![4, 2048]⟩
abbrev S8192x1 : Shape := ⟨2, ![8192, 1]⟩
abbrev S8192x4 : Shape := ⟨2, ![8192, 4]⟩
abbrev S8192x4096 : Shape := ⟨2, ![8192, 4096]⟩

class Facts : Prop where
  reducesTo_S4x2048x8_S4x2048_d2 : S4x2048x8.ReducesTo [2] S4x2048
  h_S_ : 0 < S_.numel
  bcast_S_S4x2048 : S_.BroadcastsInDim S4x2048 (![] : Fin 0 → Fin S4x2048.rank)
  shapeCasts_S4x2048_S8192x1 : S4x2048.ShapeCasts S8192x1
  bcast_S_S8192x4096 : S_.BroadcastsInDim S8192x4096 (![] : Fin 0 → Fin S8192x4096.rank)
  bcast_S_S8192x4 : S_.BroadcastsInDim S8192x4 (![] : Fin 0 → Fin S8192x4.rank)
  bcast_S8192x1_S8192x4_0_1 : S8192x1.BroadcastsInDim S8192x4 (![0, 1] : Fin 2 → Fin S8192x4.rank)
  dot_S4x2048x4096_S4096x8_S4x2048x8_2_0_01_1_n_n_wf : DotDims.WF S4x2048x4096 S4096x8 S4x2048x8 [2] [0] [0, 1] [1] [] []

variable [Facts]

def dot_S4x2048x4096_S4096x8_S4x2048x8_2_0_01_1_n_n : DotDims S4x2048x4096 S4096x8 S4x2048x8 where
  lhsContracting := [2]
  rhsContracting := [0]
  lhsNonContracting := [0, 1]
  rhsNonContracting := [1]
  lhsBatch := []
  rhsBatch := []
  wf := dot_S4x2048x4096_S4096x8_S4x2048x8_2_0_01_1_n_n_wf
def fn {F : FTy → Type} [FloatOps F] (main_arg0 : FVec F S4x2048x4096 .f32) (main_arg1 : FVec F S4096x8 .f32) : IVec S8192x4096 1 × IVec S8192x4 1 :=
  let main_v0 : FVec F S4x2048x8 .f32 := (fun l r => Host.dotGeneral dot_S4x2048x4096_S4096x8_S4x2048x8_2_0_01_1_n_n none l r) main_arg0 main_arg1
  let main_cst : FVec F S_ .f32 := constant S_ .f32 0xFF800000#32
  let main_v1 : FVec F S4x2048 .f32 := (fun x v => Host.reduce FloatOps.maximumf x v reducesTo_S4x2048x8_S4x2048_d2 h_S_) main_v0 main_cst
  let main_v2 : FVec F S4x2048 .f32 := Host.absf main_v1
  let main_cst_0 : FVec F S_ .f32 := constant S_ .f32 0x7F800000#32
  let main_v3 : FVec F S4x2048 .f32 := broadcastInDim S4x2048 ![] bcast_S_S4x2048 main_cst_0
  let main_v4 : IVec S4x2048 1 := cmpf .olt main_v2 main_v3
  let main_v5 : IVec S8192x1 1 := shapeCast S8192x1 main_v4 shapeCasts_S4x2048_S8192x1
  let main_v6 : IVec S8192x4 32 := iotaInDim S8192x4 32 1
  let main_c : IVec S_ 1 := constantI S_ 1 1#1
  let main_v7 : IVec S8192x4096 1 := broadcastInDim S8192x4096 ![] bcast_S_S8192x4096 main_c
  let main_c_1 : IVec S_ 32 := constantI S_ 32 3#32
  let main_v8 : IVec S8192x4 32 := broadcastInDim S8192x4 ![] bcast_S_S8192x4 main_c_1
  let main_v9 : IVec S8192x4 1 := cmpi .slt main_v6 main_v8
  let main_v10 : IVec S8192x4 1 := broadcastInDim S8192x4 ![0, 1] bcast_S8192x1_S8192x4_0_1 main_v5
  let main_v11 : IVec S8192x4 1 := ori main_v10 main_v9
  (main_v7, main_v11)
-- ==== Kernel.lean ====
abbrev S4x2048x4096 : Shape := ⟨3, ![4, 2048, 4096]⟩
abbrev S4096x8 : Shape := ⟨2, ![4096, 8]⟩
abbrev S8192x4096 : Shape := ⟨2, ![8192, 4096]⟩
abbrev S8192x4 : Shape := ⟨2, ![8192, 4]⟩
abbrev S512x4096 : Shape := ⟨2, ![512, 4096]⟩
abbrev S512x4 : Shape := ⟨2, ![512, 4]⟩
abbrev S512x8 : Shape := ⟨2, ![512, 8]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S8192x4096, .f32⟩
  | .hbm, ⟨3, _⟩ => ⟨S8192x4096, .f32⟩
  | .hbm, ⟨4, _⟩ => ⟨S8192x4, .f32⟩
  | .local _ .vmem, ⟨0, _⟩ => ⟨S512x4096, .f32⟩
  | .local _ .vmem, ⟨1, _⟩ => ⟨S512x4096, .f32⟩
  | .local _ .vmem, ⟨2, _⟩ => ⟨S4096x8, .f32⟩
  | .local _ .vmem, ⟨3, _⟩ => ⟨S512x4096, .f32⟩
  | .local _ .vmem, ⟨4, _⟩ => ⟨S512x4096, .f32⟩
  | .local _ .vmem, ⟨5, _⟩ => ⟨S512x4, .f32⟩
  | .local _ .vmem, ⟨6, _⟩ => ⟨S512x4, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x2048x4096 : Shape := ⟨3, ![4, 2048, 4096]⟩
abbrev S4096x8 : Shape := ⟨2, ![4096, 8]⟩
abbrev S4x2048x8 : Shape := ⟨3, ![4, 2048, 8]⟩
abbrev S_ : Shape := ⟨0, ![]⟩
abbrev S4x2048 : Shape := ⟨2, ![4, 2048]⟩
abbrev S4x2048x1 : Shape := ⟨3, ![4, 2048, 1]⟩
abbrev S4x2048x2 : Shape := ⟨3, ![4, 2048, 2]⟩
abbrev S8192x4096 : Shape := ⟨2, ![8192, 4096]⟩
abbrev S4x2048x4 : Shape := ⟨3, ![4, 2048, 4]⟩
abbrev S8192x4 : Shape := ⟨2, ![8192, 4]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S4x2048x8, .f32⟩
  | .hbm, ⟨3, _⟩ => ⟨S_, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S4x2048x1, .f32⟩
  | .hbm, ⟨9, _⟩ => ⟨S4x2048x8, .f32⟩
  | .hbm, ⟨10, _⟩ => ⟨S4x2048x8, .f32⟩
  | .hbm, ⟨11, _⟩ => ⟨S4x2048x8, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S4x2048x8, .f32⟩
  | .hbm, ⟨16, _⟩ => ⟨S4x2048x8, .f32⟩
  | .hbm, ⟨17, _⟩ => ⟨S4x2048x2, .f32⟩
  | .hbm, ⟨18, _⟩ => ⟨S4x2048x2, .i32⟩
  | .hbm, ⟨19, _⟩ => ⟨S8192x4096, .f32⟩
  | .hbm, ⟨20, _⟩ => ⟨S4x2048x2, .f32⟩
  | .hbm, ⟨21, _⟩ => ⟨S4x2048x4, .f32⟩
  | .hbm, ⟨22, _⟩ => ⟨S8192x4, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.TopTwo.lean ====
/-
  The two greatest of eight extended reals, in the two ways the programs find them: as the first two positions of a stable sort by
  descending value (`first`, `second`: what a top-k reads), and by two rounds of "the maximum, then the least position that holds it", the
  first round's position overwritten with −∞ before the second (`roundMax`, `roundArg`, `masked`: what the kernel does).
-/
module

public import Idealize.ShloMosaic.Lib.PlanTiles.StableSort
public import Idealize.ShloMosaic.PureOps.Ideal
public import Idealize.ShloMosaic.PureOps.Ideal.Laws

@[expose] public section

set_option maxRecDepth 16384

noncomputable section

namespace Cert.TopTwo

open Idealize.ShloMosaic

/-! ## The first two of the sort -/

/-- Position `k` sorts before position `k'`: it holds the greater value. -/
def before (p : Fin 8 → EReal) (k k' : Fin 8) : Bool := decide (p k' < p k)

/-- The number of entries below entry `k`: a natural number that orders the positions as the values do. -/
def rank (p : Fin 8 → EReal) (k : Fin 8) : Nat := (Finset.univ.filter fun j => p j < p k).card

/-- A value at least another has at least its rank. -/
theorem rank_le_of_le (p : Fin 8 → EReal) (a b : Fin 8) (h : p a ≤ p b) : rank p a ≤ rank p b :=
  Finset.card_le_card fun j hj => by
    simp only [Finset.mem_filter, Finset.mem_univ, true_and] at hj ⊢
    exact lt_of_lt_of_le hj h

/-- A greater value has the greater rank, and only then. -/
theorem rank_lt_iff (p : Fin 8 → EReal) (a b : Fin 8) : rank p a < rank p b ↔ p a < p b := by
  refine ⟨fun h => ?_, fun h => ?_⟩
  · by_contra hn
    exact absurd (rank_le_of_le p b a (not_lt.mp hn)) (not_le.mpr h)
  · refine Finset.card_lt_card ⟨fun j hj => ?_, fun hs => ?_⟩
    · simp only [Finset.mem_filter, Finset.mem_univ, true_and] at hj ⊢
      exact lt_trans hj h
    · have : a ∈ Finset.univ.filter fun j => p j < p a := hs (by simpa using h)
      simp at this

/-- Equal ranks are equal values. -/
theorem rank_eq_iff (p : Fin 8 → EReal) (a b : Fin 8) : rank p a = rank p b ↔ p a = p b := by
  refine ⟨fun h => ?_, fun h => by unfold rank; rw [h]⟩
  have h1 := (rank_lt_iff p a b).not.mp (by omega)
  have h2 := (rank_lt_iff p b a).not.mp (by omega)
  exact le_antisymm (not_lt.mp h2) (not_lt.mp h1)

/-- Position `a` comes ahead of position `b` in a descending order that leaves equals in place. -/
def Ahead (p : Fin 8 → EReal) (a b : Fin 8) : Prop := p b < p a ∨ (p a = p b ∧ a < b)

/-- A position ahead of another holds a value at least the other's. -/
theorem Ahead.le {p : Fin 8 → EReal} {a b : Fin 8} (h : Ahead p a b) : p b ≤ p a := by
  rcases h with h | h
  · exact h.le
  · exact h.1.symm.le

/-- The stable sort by descending value leaves the positions so that each one is ahead of all that follow. -/
theorem pairwise_sortPositions (p : Fin 8 → EReal) : (sortPositions 8 (before p)).Pairwise (Ahead p) := by
  have hb : before p = fun x y => decide (rank p y < rank p x) := by
    funext x y
    unfold before
    simp only [rank_lt_iff]
  have h := PlanTiles.pairwise_stableSort_lex (rank p) (fun a b : Fin 8 => a < b) (List.finRange 8) (List.pairwise_lt_finRange 8)
  unfold sortPositions
  rw [hb]
  refine h.imp fun {a b} hab => ?_
  rcases hab with hab | ⟨e, hab⟩
  · exact Or.inl ((rank_lt_iff p b a).mp hab)
  · exact Or.inr ⟨(rank_eq_iff p a b).mp e, hab⟩

/-- An earlier place in the sort holds a position ahead of a later place's. -/
theorem sortedFrom_ahead (p : Fin 8 → EReal) (i j : Fin 8) (h : i < j) :
    Ahead p (sortedFrom (before p) i) (sortedFrom (before p) j) :=
  List.pairwise_iff_get.mp (pairwise_sortPositions p) _ _ h

/-- The position of the greatest entry, the least such position where several hold it. -/
def first (p : Fin 8 → EReal) : Fin 8 := sortedFrom (before p) 0

/-- The position of the greatest of the other entries, again the least such. -/
def second (p : Fin 8 → EReal) : Fin 8 := sortedFrom (before p) 1

/-- The first position is ahead of every other. -/
theorem first_ahead (p : Fin 8 → EReal) (j : Fin 8) (h : j ≠ first p) : Ahead p (first p) j := by
  obtain ⟨k, rfl⟩ := sortedFrom_surjective (before p) j
  refine sortedFrom_ahead p 0 k (Fin.pos_of_ne_zero fun hk => h ?_)
  rw [hk]; rfl

/-- The two positions differ. -/
theorem second_ne_first (p : Fin 8 → EReal) : second p ≠ first p := fun h =>
  absurd (sortedFrom_injective (before p) h) (by decide)

/-- The second position is ahead of every other but the first. -/
theorem second_ahead (p : Fin 8 → EReal) (j : Fin 8) (h1 : j ≠ first p) (h2 : j ≠ second p) : Ahead p (second p) j := by
  obtain ⟨k, rfl⟩ := sortedFrom_surjective (before p) j
  refine sortedFrom_ahead p 1 k ?_
  have hk0 : k ≠ 0 := fun hk => h1 (by rw [hk]; rfl)
  have hk1 : k ≠ 1 := fun hk => h2 (by rw [hk]; rfl)
  have e0 : k.val ≠ 0 := fun e => hk0 (Fin.ext e)
  have e1 : k.val ≠ 1 := fun e => hk1 (Fin.ext e)
  exact Fin.lt_def.mpr (by show 1 < k.val; omega)

/-- No entry exceeds the one at the first position. -/
theorem le_first (p : Fin 8 → EReal) (j : Fin 8) : p j ≤ p (first p) := by
  by_cases h : j = first p
  · rw [h]
  · exact (first_ahead p j h).le

/-! ## The rounds -/

/-- The maximum of eight entries, from −∞. -/
def roundMax (p : Fin 8 → EReal) : EReal := (Finset.univ : Finset (Fin 8)).fold max ⊥ p

/-- The least position, as a word, at which the entry equals the maximum. -/
def roundArg (p : Fin 8 → EReal) : BitVec 32 :=
  (Finset.univ : Finset (Fin 8)).fold IntOp.minsi 2147483647#32 fun k =>
    if p k = roundMax p then BitVec.ofNat 32 k.val else 8#32

/-- The entries with the one at the position a word names replaced by −∞. -/
def masked (p : Fin 8 → EReal) (w : BitVec 32) (k : Fin 8) : EReal := if BitVec.ofNat 32 k.val = w then ⊥ else p k

/-- The maximum is the entry that no other exceeds. -/
theorem roundMax_eq (p : Fin 8 → EReal) (i : Fin 8) (h : ∀ j, p j ≤ p i) : roundMax p = p i := by
  refine le_antisymm ?_ ?_
  · exact (Finset.fold_max_le _).mpr ⟨bot_le, fun j _ => h j⟩
  · exact (Finset.le_fold_max _).mpr (Or.inr ⟨i, Finset.mem_univ i, le_rfl⟩)

/-- A minimum of marked positions is the least marked one: checked over every marking of eight positions. -/
theorem fold_minsi_marked : ∀ (b : Fin 8 → Bool) (i : Fin 8), b i = true → (∀ j, j < i → b j = false) →
    (Finset.univ : Finset (Fin 8)).fold IntOp.minsi 2147483647#32 (fun k => if b k = true then BitVec.ofNat 32 k.val else 8#32)
      = BitVec.ofNat 32 i.val := by
  decide +kernel

/-- The round's position is the least one that holds the maximum. -/
theorem roundArg_eq (p : Fin 8 → EReal) (i : Fin 8) (hi : p i = roundMax p) (hlt : ∀ j, j < i → p j ≠ roundMax p) :
    roundArg p = BitVec.ofNat 32 i.val := by
  have h := fold_minsi_marked (fun k => decide (p k = roundMax p)) i (by simpa using hi) (fun j hj => by simpa using hlt j hj)
  simp only [decide_eq_true_eq] at h
  exact h

/-- Two positions are equal when their words are. -/
theorem ofNat_eq_iff (a b : Fin 8) : BitVec.ofNat 32 a.val = BitVec.ofNat 32 b.val ↔ a = b := by
  revert a b; decide

/-- The first round's maximum is the entry a top-k puts first, -/
theorem roundMax_first (p : Fin 8 → EReal) : roundMax p = p (first p) := roundMax_eq p _ (le_first p)

/-- and its position is that entry's. -/
theorem roundArg_first (p : Fin 8 → EReal) : roundArg p = BitVec.ofNat 32 (first p).val := by
  refine roundArg_eq p _ (roundMax_first p).symm fun j hj => ?_
  rw [roundMax_first]
  rcases first_ahead p j (ne_of_lt hj) with h | ⟨-, h⟩
  · exact h.ne
  · exact absurd h (not_lt.mpr hj.le)

/-- The entries the second round sees: the first round's position at −∞. -/
def rest (p : Fin 8 → EReal) : Fin 8 → EReal := masked p (roundArg p)

/-- The second round sees −∞ at the first position, -/
theorem rest_first (p : Fin 8 → EReal) : rest p (first p) = ⊥ := by
  unfold rest masked
  rw [if_pos (roundArg_first p).symm]

/-- and the entry itself elsewhere. -/
theorem rest_of_ne (p : Fin 8 → EReal) (j : Fin 8) (h : j ≠ first p) : rest p j = p j := by
  unfold rest masked
  rw [if_neg fun e => h ((ofNat_eq_iff _ _).mp (e.trans (roundArg_first p)))]

/-- The second round's maximum is the entry a top-k puts second. -/
theorem roundMax_second (p : Fin 8 → EReal) : roundMax (rest p) = p (second p) := by
  rw [← rest_of_ne p _ (second_ne_first p)]
  refine roundMax_eq _ _ fun j => ?_
  by_cases h1 : j = first p
  · rw [h1, rest_first]; exact bot_le
  · by_cases h2 : j = second p
    · rw [h2]
    · rw [rest_of_ne p j h1, rest_of_ne p _ (second_ne_first p)]
      exact (second_ahead p j h1 h2).le

/-- The second round's position is that entry's, provided the entry is above −∞: at −∞ the overwritten position would tie with it. -/
theorem roundArg_second (p : Fin 8 → EReal) (h : p (second p) ≠ ⊥) : roundArg (rest p) = BitVec.ofNat 32 (second p).val := by
  refine roundArg_eq _ _ ((rest_of_ne p _ (second_ne_first p)).trans (roundMax_second p).symm) fun j hj => ?_
  rw [roundMax_second]
  by_cases h1 : j = first p
  · rw [h1, rest_first]; exact h.symm
  · rw [rest_of_ne p j h1]
    rcases second_ahead p j h1 (ne_of_lt hj) with h' | ⟨-, h'⟩
    · exact h'.ne
    · exact absurd h' (not_lt.mpr hj.le)

end Cert.TopTwo

end
-- ==== Proof.Route.lean ====
/-
  The routing of one row as mathematics: eight logits, their softmax over the row, and the two greatest probabilities with their positions
  (`decision`: what a top-k of two returns). Beside it the same four numbers as the kernel's two rounds compute them (`rounds`), and that the
  two agree: always in the first three columns, and in the fourth where the greatest logit is finite (`rounds_eq_decision`).
-/
module

public import proofs.«01_k».proof.Proof.TopTwo
public import Idealize.ShloMosaic.Lib.Pointwise.Index

@[expose] public section

set_option maxRecDepth 16384

noncomputable section

namespace Cert.Route

open Idealize.ShloMosaic Cert.TopTwo

/-- A row's logits: the row against each of the eight columns of the gating weights. -/
def logits (x : Fin 4096 → EReal) (w : Fin 4096 → Fin 8 → EReal) (k : Fin 8) : EReal := ∑ d, x d * w d k

/-- The word 0xFF800000 is −∞. -/
theorem ofBits_negInf : Ideal.ofBits .f32 0xFF800000#32 = ⊥ := by simp [Ideal.ofBits, Ideal.ieee]

/-- Token `(b, s)`'s logits, from the layer's two arguments. -/
def tokenLogits (x : FVec Ideal ⟨3, ![4, 2048, 4096]⟩ .f32) (w : FVec Ideal ⟨2, ![4096, 8]⟩ .f32) (b : Fin 4) (s : Fin 2048) : Fin 8 → EReal :=
  logits (fun d => x (ix3 b s d)) (fun d k => w (ix2 d k))

/-- The row's softmax. -/
def probs (l : Fin 8 → EReal) (k : Fin 8) : EReal :=
  Ideal.div (Ideal.exp (l k - roundMax l)) (∑ j, Ideal.exp (l j - roundMax l))

/-- A 32-bit word's signed value as an extended real. -/
def value (w : BitVec 32) : EReal := ((w.toInt : ℝ) : EReal)

/-- A row's routing decision, four numbers: the greatest two probabilities, then their positions. -/
def decision (p : Fin 8 → EReal) (c : Fin 4) : EReal :=
  match c with
  | 0 => p (first p)
  | 1 => p (second p)
  | 2 => value (BitVec.ofNat 32 (first p).val)
  | 3 => value (BitVec.ofNat 32 (second p).val)

/-- The four numbers as two rounds of maximum and least position compute them. -/
def rounds (p : Fin 8 → EReal) (c : Fin 4) : EReal :=
  match c with
  | 0 => roundMax p
  | 1 => roundMax (rest p)
  | 2 => value (roundArg p)
  | 3 => value (roundArg (rest p))

/-- An exponential is nonnegative. -/
theorem exp_nonneg (x : EReal) : 0 ≤ Ideal.exp x := by
  induction x using EReal.rec with
  | bot => exact le_of_eq rfl
  | top => exact le_top
  | coe r => exact EReal.coe_nonneg.mpr (Real.exp_pos r).le

/-- Some logit is the greatest. -/
theorem exists_greatest (l : Fin 8 → EReal) : ∃ k, l k = roundMax l := ⟨first l, (roundMax_first l).symm⟩

/-- Where the greatest logit is finite, every probability is nonnegative: the exponentials are, and their sum is at least the exponential
    of zero, so it is not zero. -/
theorem probs_nonneg (l : Fin 8 → EReal) (ht : roundMax l ≠ ⊤) (hb : roundMax l ≠ ⊥) (k : Fin 8) : 0 ≤ probs l k := by
  obtain ⟨g, hg⟩ := exists_greatest l
  have h0 : Ideal.exp (l g - roundMax l) = 1 := by
    rw [hg, EReal.sub_self ht hb]
    show ((Real.exp 0 : ℝ) : EReal) = 1
    rw [Real.exp_zero]; rfl
  have h1 : (1 : EReal) ≤ ∑ j, Ideal.exp (l j - roundMax l) := by
    rw [← h0]
    exact Finset.single_le_sum (f := fun j => Ideal.exp (l j - roundMax l)) (fun j _ => exp_nonneg _) (Finset.mem_univ g)
  have hs : (∑ j, Ideal.exp (l j - roundMax l)) ≠ 0 := fun h => by
    rw [h] at h1
    exact absurd h1 (not_le.mpr zero_lt_one)
  unfold probs Ideal.div
  rw [if_neg hs]
  exact mul_nonneg (exp_nonneg _) (EReal.inv_nonneg_of_nonneg (zero_le_one.trans h1))

/-- Where the greatest logit is infinite, the softmax is −∞ everywhere: every exponential is zero, and zero over zero is −∞ here. -/
theorem probs_eq_bot (l : Fin 8 → EReal) (h : roundMax l = ⊤ ∨ roundMax l = ⊥) (k : Fin 8) : probs l k = ⊥ := by
  have hz : ∀ j, Ideal.exp (l j - roundMax l) = 0 := fun j => by
    have hj : l j - roundMax l = ⊥ := by
      rcases h with h | h
      · rw [h]; exact EReal.sub_top _
      · have hl : l j ≤ ⊥ := h ▸ (roundMax_first l ▸ le_first l j)
        rw [h, le_bot_iff.mp hl]; rfl
    rw [hj]; rfl
  unfold probs Ideal.div
  rw [if_pos (Finset.sum_eq_zero fun j _ => hz j), hz k, if_neg (lt_irrefl _)]

/-- So there the fourth number of the rounds, 0, is not the decision's, 1: the condition of `rounds_eq_decision` cannot be dropped. -/
theorem rounds_ne_decision (l : Fin 8 → EReal) (h : roundMax l = ⊤ ∨ roundMax l = ⊥) : rounds (probs l) 3 ≠ decision (probs l) 3 := by
  have hp := probs_eq_bot l h
  generalize probs l = p at hp ⊢
  have h1 : first p = 0 := by
    by_contra hn
    rcases first_ahead p 0 (Ne.symm hn) with h' | h'
    · rw [hp, hp] at h'; exact lt_irrefl _ h'
    · exact absurd h'.2 (Fin.not_lt_zero _)
  have h2 : second p = 1 := by
    by_contra hn
    rcases second_ahead p 1 (by rw [h1]; decide) (Ne.symm hn) with h' | h'
    · rw [hp, hp] at h'; exact lt_irrefl _ h'
    · have h0 : second p ≠ 0 := h1 ▸ second_ne_first p
      have e0 : (second p).val ≠ 0 := fun e => h0 (Fin.ext e)
      have : (second p).val < 1 := h'.2
      omega
  have hr : ∀ j, rest p j = ⊥ := fun j => by
    by_cases hj : j = first p
    · rw [hj]; exact rest_first p
    · rw [rest_of_ne p j hj, hp]
  have hm : roundMax (rest p) = ⊥ := (roundMax_second p).trans (hp _)
  have ha : roundArg (rest p) = BitVec.ofNat 32 (0 : Fin 8).val :=
    roundArg_eq _ 0 ((hr 0).trans hm.symm) fun j hj => absurd hj (Fin.not_lt_zero _)
  show value (roundArg (rest p)) ≠ value (BitVec.ofNat 32 (second p).val)
  rw [ha, h2]
  simp [value]

/-- The rounds compute the decision: the first three numbers always, the fourth where the greatest logit is finite. -/
theorem rounds_eq_decision (l : Fin 8 → EReal) (c : Fin 4) (h : c.val < 3 ∨ (roundMax l ≠ ⊤ ∧ roundMax l ≠ ⊥)) :
    rounds (probs l) c = decision (probs l) c := by
  match c, h with
  | 0, _ => exact roundMax_first _
  | 1, _ => exact roundMax_second _
  | 2, _ => exact congrArg value (roundArg_first _)
  | 3, h =>
    obtain ⟨ht, hb⟩ := h.resolve_left (by decide)
    exact congrArg value (roundArg_second _ fun e => absurd (probs_nonneg l ht hb (second (probs l))) (by
      rw [e]; exact not_le.mpr EReal.bot_lt_zero))

end Cert.Route

end
-- ==== Proof.Block.lean ====
/-
  One block of the kernel's routing table read at an index: row `r` of the block a grid point stores is the two rounds
  (`Cert.Route.rounds`) of the softmax of row `r` of the point's block of tokens.
-/
module

public import proofs.«01_k».proof.Proof.Gen.KernelIdeal.Skeleton
public import proofs.«01_k».proof.Proof.Route
public import Idealize.ShloMosaic.Lib.Pointwise
public import Idealize.ShloMosaic.Lib.Pointwise.Sums

@[expose] public section

set_option maxRecDepth 16384

noncomputable section

namespace Cert.KernelBlock

open Idealize.ShloMosaic Cert.KernelIdeal Cert.KernelIdeal.Gen Cert.TopTwo Cert.Route

/-- A select on an equality of words is a choice by that equality. -/
theorem select_eq (a b : BitVec 32) (u v : EReal) : Scalar.select (IntOp.cmpi .eq a b) u v = if a = b then u else v := by
  by_cases h : a = b
  · simp [Scalar.select, IntOp.cmpi, h]
  · have hb : (a == b) = false := by simpa using h
    simp [Scalar.select, IntOp.cmpi, h, hb]

/-- Row `r`, column `c` of the stored block of routing rows. -/
theorem pay2_apply (x : Vec Ideal S512x4096 .f32) (w : Vec Ideal S4096x8 .f32) (r : Fin 512) (c : Fin 4) :
    k0_pay2 (F := Ideal) x w (ix2 r c)
      = rounds (probs (logits (fun d => x (ix2 r d)) (fun d k => w (ix2 d k)))) c := by
  unfold k0_pay2 k0_pay1
  pointwise
  simp only [ofBits_negInf, select_eq]
  match c with
  | 0 => rfl
  | 1 => rfl
  | 2 => rfl
  | 3 => rfl

end Cert.KernelBlock

end
-- ==== Proof.Arrays.lean ====
/-
  The kernel's two result arrays after its run. Grid point `t` holds rows `512 t` to `512 t + 511` of the tokens; the sixteen blocks of each
  result tile its array, so the first result is the tokens themselves, rows in one axis, and row `r` of the second is the two rounds of
  token `(r / 2048, r % 2048)`'s softmax.
-/
module

public import proofs.«01_k».proof.Proof.Gen.KernelIdeal.Value
public import proofs.«01_k».proof.Proof.Block

@[expose] public section

set_option maxRecDepth 16384

noncomputable section

namespace Cert.KernelArrays

open Idealize.ShloMosaic Idealize.ShloMosaic.TcCoe Idealize.SL.Sem
open Idealize.ShloMosaic.Pipeline (Dat)
open Cert.KernelIdeal Cert.KernelIdeal.Gen Cert.Route Cert.KernelBlock

variable (m : (ℓ : Loc nD τ sig) → Buf (Elt Ideal) ℓ) (ρ : Dev nD → PrngReg)

/-- The two zero offsets are the zero function. -/
theorem hz : (![0, 0] : Fin 2 → Nat) = fun _ => 0 := funext fun a => by fin_cases a <;> rfl

/-- Each window's block at a point: the token blocks and both results' move down the rows with the point, the weights' block stays. -/
theorem index_facts : ∀ t : Fin grid0.N,
    win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0 := by
  decide +kernel

/-- There are sixteen grid points. -/
theorem lt_16 (t : Fin cfg0.N) : t.val < 16 := lt_of_lt_of_le t.isLt (by decide +kernel)

/-- The tokens as the region finds them: the argument with its rows in one axis. -/
theorem tokens_eq (c : Dev nD) :
    V m c main_v0 = shapeCast S8192x4096 (m ((c : Thread nD τ).loc main_arg0)) shapeCasts_S4x2048x4096_S8192x4096 := by
  unfold V hostOps0
  after_results <;> rfl

/-- Row `r` of the array of tokens is token `(r / 2048, r % 2048)`. -/
theorem tokens_apply (x : FVec Ideal S4x2048x4096 .f32) (r : Fin 8192) (d : Fin 4096) :
    shapeCast S8192x4096 x shapeCasts_S4x2048x4096_S8192x4096 (ix2 r d)
      = x (ix3 ⟨r.val / 2048, by omega⟩ ⟨r.val % 2048, by omega⟩ d) := by
  pointwise

/-- Point `t`'s block of tokens, read at an index. -/
theorem iblk0_apply (c : Dev nD) (t : Fin cfg0.N) (r : Fin 512) (d : Fin 4096) :
    iblk m c 0 t (ix2 r d) = V m c main_v0 (ix2 ⟨t.val * 512 + r.val, by have := lt_16 t; omega⟩ d) := by
  obtain ⟨e0, e1, -⟩ := index_facts t
  refine congrArg (V m c main_v0) (funext fun a => Fin.ext ?_)
  match a with
  | ⟨0, _⟩ => show win0_0.index t 0 * 512 + 1 * r.val = t.val * 512 + r.val; rw [e0]; omega
  | ⟨1, _⟩ => show win0_0.index t 1 * 4096 + 1 * d.val = d.val; rw [e1]; omega

/-- Point `t`'s block of weights is the weights. -/
theorem iblk1_apply (c : Dev nD) (t : Fin cfg0.N) (d : Fin 4096) (k : Fin 8) :
    iblk m c 1 t (ix2 d k) = m ((c : Thread nD τ).loc main_arg1) (ix2 d k) := by
  obtain ⟨-, -, e0, e1, -⟩ := index_facts t
  rw [← V_main_arg1 m c]
  refine congrArg (V m c main_arg1) (funext fun a => Fin.ext ?_)
  match a with
  | ⟨0, _⟩ => show win0_1.index t 0 * 4096 + 1 * d.val = d.val; rw [e0]; omega
  | ⟨1, _⟩ => show win0_1.index t 1 * 8 + 1 * k.val = k.val; rw [e1]; omega

/-- What the first result is shown to hold. -/
def outG (c : Dev nD) : Buf (Elt Ideal) ((c : Thread nD τ).loc main_v1_0) :=
  shapeCast S8192x4096 (m ((c : Thread nD τ).loc main_arg0)) shapeCasts_S4x2048x4096_S8192x4096

/-- What the second result is shown to hold. -/
def routeG (c : Dev nD) : Buf (Elt Ideal) ((c : Thread nD τ).loc main_v1_1) :=
  fun i : S8192x4.Idx => rounds (probs (tokenLogits (m ((c : Thread nD τ).loc main_arg0)) (m ((c : Thread nD τ).loc main_arg1))
    ⟨(i 0).val / 2048, by have : (i 0).val < 8192 := (i 0).isLt; omega⟩ ⟨(i 0).val % 2048, by omega⟩)) (i 1)

/-- The logits of row `r` of point `t`'s block are the token's. -/
theorem block_logits (c : Dev nD) (t : Fin cfg0.N) (r : Fin 512) :
    logits (fun d => iblk m c 0 t (ix2 r d)) (fun d k => iblk m c 1 t (ix2 d k))
      = tokenLogits (m ((c : Thread nD τ).loc main_arg0)) (m ((c : Thread nD τ).loc main_arg1))
          ⟨(t.val * 512 + r.val) / 2048, by have := lt_16 t; omega⟩ ⟨(t.val * 512 + r.val) % 2048, by omega⟩ := by
  unfold tokenLogits
  congr 1
  · funext d
    rw [iblk0_apply, tokens_eq]
    exact tokens_apply _ _ d
  · funext d k
    exact iblk1_apply m c t d k

/-- Point `t` writes back its block of tokens: block `t` of the first result. -/
theorem flushed2_eq (c : Dev nD) (t : Fin cfg0.N) :
    (dats m 0 c).flushed 2 t = (win0_2.blk t).view.read (Elt Ideal) (outG m c) := by
  rw [Value.flushed2]
  unfold out0_2
  rw [View.canon_unit_zero hz, View.ld_unit_zero hz]
  funext (y : S512x4096.Idx)
  obtain ⟨r, d, rfl⟩ : ∃ (r : Fin 512) (d : Fin 4096), y = ix2 r d := ⟨y 0, y 1, eq_ix2 y⟩
  obtain ⟨-, -, -, -, e0, e1, -⟩ := index_facts t
  refine Eq.trans (b := V m c main_v0 (ix2 ⟨t.val * 512 + r.val, by have := lt_16 t; omega⟩ d)) ?_ ?_
  · refine Eq.trans ?_ (iblk0_apply m c t r d)
    show k0_pay1 (F := Ideal) (iblk m c 0 t) (ix2 r d) = _
    unfold k0_pay1
    pointwise
  · rw [tokens_eq]
    refine congrArg (outG m c) (funext fun a => Fin.ext ?_)
    match a with
    | ⟨0, _⟩ => show t.val * 512 + r.val = win0_2.index t 0 * 512 + 1 * r.val; rw [e0]; omega
    | ⟨1, _⟩ => show d.val = win0_2.index t 1 * 4096 + 1 * d.val; rw [e1]; omega

/-- Point `t` writes back the routing rows of its block: block `t` of the second result. -/
theorem flushed3_eq (c : Dev nD) (t : Fin cfg0.N) :
    (dats m 0 c).flushed 3 t = (win0_3.blk t).view.read (Elt Ideal) (routeG m c) := by
  rw [Value.flushed3]
  unfold out0_3
  rw [View.canon_unit_zero hz, View.ld_unit_zero hz, View.ld_unit_zero hz]
  funext (y : S512x4.Idx)
  obtain ⟨r, k, rfl⟩ : ∃ (r : Fin 512) (k : Fin 4), y = ix2 r k := ⟨y 0, y 1, eq_ix2 y⟩
  obtain ⟨-, -, -, -, -, -, e0, e1⟩ := index_facts t
  refine Eq.trans (b := routeG m c (ix2 ⟨t.val * 512 + r.val, by have := lt_16 t; omega⟩ k)) ?_ ?_
  · refine Eq.trans (b := k0_pay2 (F := Ideal) (iblk m c 0 t) (iblk m c 1 t) (ix2 r k)) rfl ?_
    refine (pay2_apply _ _ r k).trans ?_
    rw [block_logits]
    rfl
  · refine congrArg (routeG m c) (funext fun a => Fin.ext ?_)
    match a with
    | ⟨0, _⟩ => show t.val * 512 + r.val = win0_3.index t 0 * 512 + 1 * r.val; rw [e0]; omega
    | ⟨1, _⟩ => show k.val = win0_3.index t 1 * 4 + 1 * k.val; rw [e1]; omega

/-- An index of the first result is in point `t`'s block where its row is one of the point's 512. -/
theorem mem_blk2 (t : Fin cfg0.N) (i : S8192x4096.Idx) :
    i ∈ ((cfg0.win 2).blk t).view.set ↔ t.val * 512 ≤ (i 0 : Nat) ∧ (i 0 : Nat) < t.val * 512 + 512 := by
  obtain ⟨-, -, -, -, e0, e1, -⟩ := index_facts t
  show i ∈ ((View.whole main_v1_0).slice (win0_2.rect t)).set ↔ _
  rw [View.set_slice_whole, Rect.mem_set_unit]
  have h1 : (i 1 : Nat) < 4096 := (i 1).isLt
  refine ⟨fun h => ?_, fun h a => ?_⟩
  · have : win0_2.index t 0 * 512 ≤ (i 0 : Nat) ∧ (i 0 : Nat) < win0_2.index t 0 * 512 + 512 := h 0
    rwa [e0] at this
  · match a with
    | ⟨0, _⟩ => show win0_2.index t 0 * 512 ≤ (i 0 : Nat) ∧ (i 0 : Nat) < win0_2.index t 0 * 512 + 512
                rwa [e0]
    | ⟨1, _⟩ => show win0_2.index t 1 * 4096 ≤ (i 1 : Nat) ∧ (i 1 : Nat) < win0_2.index t 1 * 4096 + 4096
                rw [e1, Nat.zero_mul, Nat.zero_add]; exact ⟨Nat.zero_le _, h1⟩

/-- An index of the second result likewise. -/
theorem mem_blk3 (t : Fin cfg0.N) (i : S8192x4.Idx) :
    i ∈ ((cfg0.win 3).blk t).view.set ↔ t.val * 512 ≤ (i 0 : Nat) ∧ (i 0 : Nat) < t.val * 512 + 512 := by
  obtain ⟨-, -, -, -, -, -, e0, e1⟩ := index_facts t
  show i ∈ ((View.whole main_v1_1).slice (win0_3.rect t)).set ↔ _
  rw [View.set_slice_whole, Rect.mem_set_unit]
  have h1 : (i 1 : Nat) < 4 := (i 1).isLt
  refine ⟨fun h => ?_, fun h a => ?_⟩
  · have : win0_3.index t 0 * 512 ≤ (i 0 : Nat) ∧ (i 0 : Nat) < win0_3.index t 0 * 512 + 512 := h 0
    rwa [e0] at this
  · match a with
    | ⟨0, _⟩ => show win0_3.index t 0 * 512 ≤ (i 0 : Nat) ∧ (i 0 : Nat) < win0_3.index t 0 * 512 + 512
                rwa [e0]
    | ⟨1, _⟩ => show win0_3.index t 1 * 4 ≤ (i 1 : Nat) ∧ (i 1 : Nat) < win0_3.index t 1 * 4 + 4
                rw [e1, Nat.zero_mul, Nat.zero_add]; exact ⟨Nat.zero_le _, h1⟩

/-- The point whose block holds row `r`. -/
def pointOf (r : Nat) (h : r < 8192) : Fin cfg0.N := ⟨r / 512, lt_of_lt_of_le (by omega : r / 512 < 16) (by decide +kernel)⟩

/-- The first result's blocks tile it, -/
theorem cover2 (i : S8192x4096.Idx) : ∃ t : Fin cfg0.N, (cfg0.win 2).flush t = true ∧ i ∈ ((cfg0.win 2).blk t).view.set := by
  have h0 : (i 0 : Nat) < 8192 := (i 0).isLt
  refine ⟨pointOf _ h0, flush0_2 _, (mem_blk2 _ i).mpr ?_⟩
  show (i 0 : Nat) / 512 * 512 ≤ (i 0 : Nat) ∧ (i 0 : Nat) < (i 0 : Nat) / 512 * 512 + 512
  omega

/-- and so do the second's. -/
theorem cover3 (i : S8192x4.Idx) : ∃ t : Fin cfg0.N, (cfg0.win 3).flush t = true ∧ i ∈ ((cfg0.win 3).blk t).view.set := by
  have h0 : (i 0 : Nat) < 8192 := (i 0).isLt
  refine ⟨pointOf _ h0, flush0_3 _, (mem_blk3 _ i).mpr ?_⟩
  show (i 0 : Nat) / 512 * 512 ≤ (i 0 : Nat) ∧ (i 0 : Nat) < (i 0 : Nat) / 512 * 512 + 512
  omega

/-- The kernel's run, read: the first result is the tokens, the second the routing rows, the arguments are unchanged. -/
theorem run : θ_run defs (onTc (τ := τ) (main (F := Ideal))) ⟨m, fun _ => 0, ρ⟩ fun r => ∀ c : Dev nD,
      r.2.mem ((c : Thread nD τ).loc main_v1_0) = outG m c
      ∧ r.2.mem ((c : Thread nD τ).loc main_v1_1) = routeG m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((dats m 0 c).arrAt_eq_of_cover 2 (outG m c) (fun t _ => flushed2_eq m c t) cover2),
       (h c).2.1.trans ((dats m 0 c).arrAt_eq_of_cover 3 (routeG m c) (fun t _ => flushed3_eq m c t) cover3), (h c).2.2⟩)
    (Value.run_blocks m ρ)

end Cert.KernelArrays

end
-- ==== Proof.Reference.lean ====
/-
  The reference's routing table read at an index: the row of four numbers of token `(b, s)` is the decision (`Cert.Route.decision`) of that
  token's softmax, whatever the inputs.
-/
module

public import proofs.«01_k».proof.Proof.Gen.ReferenceIdeal.Run
public import proofs.«01_k».proof.Proof.Route
public import Idealize.ShloMosaic.Lib.Pointwise
public import Idealize.ShloMosaic.Lib.Pointwise.Sums

@[expose] public section

set_option maxRecDepth 16384

noncomputable section

namespace Cert.ReferenceRoute

open Idealize.ShloMosaic Cert.ReferenceIdeal Cert.ReferenceIdeal.Gen Cert.TopTwo Cert.Route

variable (x : FVec Ideal S4x2048x4096 .f32) (w : FVec Ideal S4096x8 .f32)

/-- The logits as the reference spells them. -/
def dotT : FVec Ideal S4x2048x8 .f32 := Host.dotGeneral dot_S4x2048x4096_S4096x8_S4x2048x8_2_0_01_1_n_n none x w

/-- The exponentials as the reference spells them: of the logits less the row's greatest. -/
def expT : FVec Ideal S4x2048x8 .f32 :=
  Host.exp (subf (dotT x w) (broadcastInDim S4x2048x8 ![0, 1, 2] bcast_S4x2048x1_S4x2048x8_0_1_2
    (broadcastInDim S4x2048x1 ![0, 1] bcast_S4x2048_S4x2048x1_0_1
      (maximumf (broadcastInDim S4x2048 ![] bcast_S_S4x2048 (constant S_ .f32 0xFF800000#32))
        (Host.reduce FloatOps.maximumf (dotT x w) (constant S_ .f32 0xFF800000#32) reducesTo_S4x2048x8_S4x2048_d2 h_S_)))))

/-- The softmax as the reference spells it. -/
def probsT : FVec Ideal S4x2048x8 .f32 :=
  Host.divf (expT x w) (broadcastInDim S4x2048x8 ![0, 1, 2] bcast_S4x2048x1_S4x2048x8_0_1_2
    (broadcastInDim S4x2048x1 ![0, 1] bcast_S4x2048_S4x2048x1_0_1
      (Host.reduceAdd (expT x w) (constant S_ .f32 0x00000000#32) reducesTo_S4x2048x8_S4x2048_d2 h_S_)))

/-- The greatest logit of a token, by the reference's own reduction. -/
theorem greatest_apply (b : Fin 4) (s : Fin 2048) :
    Host.reduce FloatOps.maximumf (dotT x w) (constant S_ .f32 0xFF800000#32) reducesTo_S4x2048x8_S4x2048_d2 h_S_ (ix2 b s)
      = roundMax (tokenLogits x w b s) := by
  unfold dotT
  pointwise
  rw [ofBits_negInf]
  rfl

/-- The reference's softmax at a token and an expert is that token's softmax. -/
theorem probsT_apply (b : Fin 4) (s : Fin 2048) (k : Fin 8) : probsT x w (ix3 b s k) = probs (tokenLogits x w b s) k := by
  unfold probsT expT dotT
  pointwise
  rw [ofBits_negInf]
  simp only [max_bot_left]
  rfl

/-- The comparison the top-k sorts by is "greater". -/
theorem gt_eq (a b : EReal) : (FloatOps.cmpfTotal (F := Ideal) (φ := .f32) .gt a b == 1#1) = decide (b < a) := by
  rw [Ideal.cmpfTotal_def]
  by_cases h : b < a <;> simp [Ideal.cmp, CmpDirection.ordered, h]

/-- Moving along the experts' axis changes the last coordinate alone. -/
theorem along_eq (b : Fin 4) (s : Fin 2048) (k k' : Fin 8) :
    (ix3 b s k : S4x2048x8.Idx).along 2 k' = ix3 b s k' := by
  funext a
  match a with
  | ⟨0, _⟩ => rfl
  | ⟨1, _⟩ => rfl
  | ⟨2, _⟩ => rfl

/-- The sort of the pairs reads, at a result index, the pair at the position the token's row puts there. -/
theorem sort2_apply (y : FVec Ideal S4x2048x8 .f32) (z : IVec S4x2048x8 32) (b : Fin 4) (s : Fin 2048) (k : Fin 8) :
    let π := sortedFrom (before fun k => y (ix3 b s k)) k
    let r := Host.sort2 S4x2048x8 2 (fun l r => FloatOps.cmpfTotal (F := Ideal) (φ := .f32) .gt l.1 r.1) y z
    r.1 (ix3 b s k) = y (ix3 b s π) ∧ r.2 (ix3 b s k) = z (ix3 b s π) := by
  intro π r
  have hπ : sortedFrom (fun k₁ k₂ : Fin 8 => FloatOps.cmpfTotal (F := Ideal) (φ := .f32) .gt (y ((ix3 b s k : S4x2048x8.Idx).along 2 k₁))
      (y ((ix3 b s k : S4x2048x8.Idx).along 2 k₂)) == 1#1) k = π := by
    simp only [along_eq, gt_eq]
    rfl
  refine ⟨?_, ?_⟩
  · refine Eq.trans (b := y ((ix3 b s k : S4x2048x8.Idx).along 2 _)) rfl ?_
    exact congrArg y ((along_eq b s k _).trans (congrArg (ix3 b s) hπ))
  · refine Eq.trans (b := z ((ix3 b s k : S4x2048x8.Idx).along 2 _)) rfl ?_
    exact congrArg z ((along_eq b s k _).trans (congrArg (ix3 b s) hπ))

/-- The slice to the first two positions keeps the index. -/
theorem slice_apply {α : Type} (v : S4x2048x8.Idx → α) (b : Fin 4) (s : Fin 2048) (j : Fin 2) :
    extractStridedSlice S4x2048x2 (fun _ => 0) v sliceFits_S4x2048x8_S4x2048x2 (ix3 b s j) = v (ix3 b s (j.castLE (by decide))) := by
  refine congrArg v (funext fun a => Fin.ext ?_)
  match a with
  | ⟨0, _⟩ => exact Nat.zero_add _
  | ⟨1, _⟩ => exact Nat.zero_add _
  | ⟨2, _⟩ => exact Nat.zero_add _

/-- The experts' numbers, as the top-k carries them beside the values. -/
def expertNumbers : IVec S4x2048x8 32 := fun i => if hd : 2 < S4x2048x8.rank then iotaInDim S4x2048x8 32 ⟨2, hd⟩ i else 0#32

/-- The top-k of two along the experts: the values are the entries at the sort's first two positions, -/
theorem topK_values (y : FVec Ideal S4x2048x8 .f32) (b : Fin 4) (s : Fin 2048) (j : Fin 2) :
    (Host.topK S4x2048x2 2 (FloatOps.cmpfTotal (F := Ideal) (φ := .f32) .gt) y sliceFits_S4x2048x8_S4x2048x2).1 (ix3 b s j)
      = y (ix3 b s (sortedFrom (before fun k => y (ix3 b s k)) (j.castLE (by decide)))) := by
  exact (slice_apply (Host.sort2 S4x2048x8 2 (fun l r => FloatOps.cmpfTotal (F := Ideal) (φ := .f32) .gt l.1 r.1) y expertNumbers).1 b s j).trans
    (sort2_apply y expertNumbers b s _).1

/-- and the indices are those positions. -/
theorem topK_indices (y : FVec Ideal S4x2048x8 .f32) (b : Fin 4) (s : Fin 2048) (j : Fin 2) :
    (Host.topK S4x2048x2 2 (FloatOps.cmpfTotal (F := Ideal) (φ := .f32) .gt) y sliceFits_S4x2048x8_S4x2048x2).2 (ix3 b s j)
      = BitVec.ofNat 32 (sortedFrom (before fun k => y (ix3 b s k)) (j.castLE (by decide))).val := by
  exact (slice_apply (Host.sort2 S4x2048x8 2 (fun l r => FloatOps.cmpfTotal (F := Ideal) (φ := .f32) .gt l.1 r.1) y expertNumbers).2 b s j).trans
    (sort2_apply y expertNumbers b s _).2

/-- The routing table as the reference spells it, before its rows are put in one axis. -/
def tableT : FVec Ideal S4x2048x4 .f32 :=
  concatenate S4x2048x4 2
    [⟨S4x2048x2, (Host.topK S4x2048x2 2 (FloatOps.cmpfTotal (F := Ideal) (φ := .f32) .gt) (probsT x w) sliceFits_S4x2048x8_S4x2048x2).1⟩,
     ⟨S4x2048x2, sitofp (F := Ideal) .f32 (Host.topK S4x2048x2 2 (FloatOps.cmpfTotal (F := Ideal) (φ := .f32) .gt) (probsT x w)
        sliceFits_S4x2048x8_S4x2048x2).2⟩]
    concatenates_S4x2048x2_S4x2048x2_S4x2048x4_d2

/-- A row of the table is the token's decision. -/
theorem tableT_apply (b : Fin 4) (s : Fin 2048) (c : Fin 4) : tableT x w (ix3 b s c) = decision (probs (tokenLogits x w b s)) c := by
  have hp : (fun k => probsT x w (ix3 b s k)) = probs (tokenLogits x w b s) := funext fun k => probsT_apply x w b s k
  unfold tableT
  pointwise
  match c with
  | 0 => exact (topK_values _ b s 0).trans (by rw [hp, probsT_apply]; rfl)
  | 1 => exact (topK_values _ b s 1).trans (by rw [hp, probsT_apply]; rfl)
  | 2 => exact congrArg value ((topK_indices _ b s 0).trans (by rw [hp]; rfl))
  | 3 => exact congrArg value ((topK_indices _ b s 1).trans (by rw [hp]; rfl))

/-- The table with its rows in one axis: row `r` is token `(r / 2048, r % 2048)`'s decision. -/
theorem table_apply (r : Fin 8192) (c : Fin 4) :
    shapeCast S8192x4 (tableT x w) shapeCasts_S4x2048x4_S8192x4 (ix2 r c)
      = decision (probs (tokenLogits x w ⟨r.val / 2048, by omega⟩ ⟨r.val % 2048, by omega⟩)) c := by
  pointwise
  exact tableT_apply x w _ _ c

end Cert.ReferenceRoute

end
-- ==== Proof.Mask.lean ====
/-
  The mask `decided`, read at an index: it asks for all of the first result, and of a token's routing row for the first three columns, and
  for the fourth where the greatest logit is finite.
-/
module

public import proofs.«01_k».proof.On_decided
public import proofs.«01_k».proof.Proof.Route
public import Idealize.ShloMosaic.Lib.Pointwise
public import Idealize.ShloMosaic.Lib.Pointwise.Sums

@[expose] public section

set_option maxRecDepth 16384

noncomputable section

namespace Cert.MaskRead

open Idealize.ShloMosaic Cert.On_decided Cert.TopTwo Cert.Route

/-- The shape relations the mask states. -/
theorem facts : Cert.On_decided.Facts where
  reducesTo_S4x2048x8_S4x2048_d2 := by decide
  h_S_ := by decide
  bcast_S_S4x2048 := by decide
  shapeCasts_S4x2048_S8192x1 := by decide
  bcast_S_S8192x4096 := by decide
  bcast_S_S8192x4 := by decide
  bcast_S8192x1_S8192x4_0_1 := by decide
  dot_S4x2048x4096_S4096x8_S4x2048x8_2_0_01_1_n_n_wf := by decide

/-- The word 0x7F800000 is +∞. -/
theorem ofBits_posInf : Ideal.ofBits .f32 0x7F800000#32 = ⊤ := by simp [Ideal.ofBits, Ideal.ieee]

/-- An absolute value below +∞ is a finite value. -/
theorem abs_lt_top_iff (a : EReal) : max a (-a) < ⊤ ↔ a ≠ ⊤ ∧ a ≠ ⊥ := by
  rw [max_lt_iff, lt_top_iff_ne_top, lt_top_iff_ne_top]
  refine and_congr_right fun _ => not_congr ?_
  exact EReal.neg_eq_top_iff

/-- The mask's two tests joined: the absolute value below +∞, or the column below 3. -/
theorem set_iff (g : EReal) (c : Fin 4) :
    IntOp.ori (BitVec.ofBool (decide (max g (-g) < Ideal.ofBits .f32 0x7F800000#32))) (IntOp.cmpi .slt (BitVec.ofNat 32 c.val) 3#32) = 1#1
      ↔ (c.val < 3 ∨ (g ≠ ⊤ ∧ g ≠ ⊥)) := by
  have bits : ∀ (p : Bool) (c : Fin 4), IntOp.ori (BitVec.ofBool p) (IntOp.cmpi .slt (BitVec.ofNat 32 c.val) 3#32) = 1#1
      ↔ (c.val < 3 ∨ p = true) := by decide
  rw [bits, decide_eq_true_eq, ofBits_posInf, abs_lt_top_iff]

variable [Cert.On_decided.Facts]

/-- The mask of the routing rows is set in the first three columns and where the token's greatest logit is finite. -/
theorem route_iff (x : FVec Ideal S4x2048x4096 .f32) (w : FVec Ideal S4096x8 .f32) (r : Fin 8192) (c : Fin 4) :
    (fn x w).2 (ix2 r c) = 1#1 ↔
      (c.val < 3 ∨ (roundMax (tokenLogits x w ⟨r.val / 2048, by omega⟩ ⟨r.val % 2048, by omega⟩) ≠ ⊤
        ∧ roundMax (tokenLogits x w ⟨r.val / 2048, by omega⟩ ⟨r.val % 2048, by omega⟩) ≠ ⊥)) := by
  unfold fn
  pointwise
  rw [ofBits_negInf, Ideal.absf_def]
  exact set_iff _ c

end Cert.MaskRead

end
-- ==== Proof.lean ====
/-
  The proof of `Cert.Claim`. The three frames are the generated runs read at the arguments; the ideal form of the kernel is the kernel, nothing
  rewritten; and where the mask `decided` is set the kernel's two results are the reference's: the tokens with their rows in one axis, and each
  token's routing row, by the two rounds on one side and by a top-k on the other (`Cert.Route.rounds_eq_decision`).
-/
module

public import proofs.«01_k».proof.Defs
public import proofs.«01_k».proof.Proof.Gen.Kernel.Frame
public import proofs.«01_k».proof.Proof.Arrays
public import proofs.«01_k».proof.Proof.Reference
public import proofs.«01_k».proof.Proof.Mask
public import Idealize.ShloMosaic.Lib.Quiescent

@[expose] public section

set_option maxRecDepth 16384

noncomputable section

namespace Cert.Proof

open Idealize.ShloMosaic Idealize.ShloMosaic.TcCoe Idealize.SL.Sem Cert.Route

/-- The mask's stated shape relations, as the claim takes them. -/
instance factsOn : Cert.On_decided.Facts := Cert.MaskRead.facts

/-- The reference's run leaves its arguments as launched, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => ⟨(h c).2.2.1, (h c).2.2.2⟩,
      Idealize.ShloMosaic.sem_eq_zero_of_no_sems (by decide) r.2⟩)
    (Cert.ReferenceIdeal.Value.run (F := Ideal) m ρ)

/-- The reference's routing table at an index is the token's decision. -/
theorem reference_route (x : FVec Ideal Cert.ReferenceIdeal.S4x2048x4096 .f32) (w : FVec Ideal Cert.ReferenceIdeal.S4096x8 .f32)
    (i : Cert.ReferenceIdeal.S8192x4.Idx) :
    shapeCast Cert.ReferenceIdeal.S8192x4 (Cert.ReferenceRoute.tableT x w) Cert.ReferenceIdeal.Gen.shapeCasts_S4x2048x4_S8192x4 i
      = decision (probs (tokenLogits x w ⟨(i 0).val / 2048, by have : (i 0).val < 8192 := (i 0).isLt; omega⟩
          ⟨(i 0).val % 2048, by omega⟩)) (i 1) := by
  obtain ⟨r, c, rfl⟩ : ∃ (r : Fin 8192) (c : Fin 4), i = ix2 r c := ⟨i 0, i 1, eq_ix2 i⟩
  exact Cert.ReferenceRoute.table_apply x w r c

/-- Where the mask is set, the rounds of a row of the table are its decision. -/
theorem rounds_eq_of_mask (x : FVec Ideal Cert.ReferenceIdeal.S4x2048x4096 .f32) (w : FVec Ideal Cert.ReferenceIdeal.S4096x8 .f32)
    (i : Cert.ReferenceIdeal.S8192x4.Idx) (h : (Cert.On_decided.fn (F := Ideal) x w).2 i = 1#1) :
    let l := tokenLogits x w ⟨(i 0).val / 2048, by have : (i 0).val < 8192 := (i 0).isLt; omega⟩ ⟨(i 0).val % 2048, by omega⟩
    rounds (probs l) (i 1) = decision (probs l) (i 1) := by
  obtain ⟨r, c, rfl⟩ : ∃ (r : Fin 8192) (c : Fin 4), i = ix2 r c := ⟨i 0, i 1, eq_ix2 i⟩
  exact rounds_eq_decision _ c ((Cert.MaskRead.route_iff x w r c).mp h)

/-- The two programs' results agree where the mask is set. -/
theorem algebraic : Cert.algebraic_KernelIdeal_ReferenceIdeal_on_decided (hKernelIdeal := Cert.KernelIdeal.Gen.facts)
    (hReferenceIdeal := Cert.ReferenceIdeal.Gen.facts) (hOn_decided := factsOn) := by
  intro m ρ m' ρ' _ hagree
  refine ⟨fun c => Cert.KernelArrays.outG m c, fun c => Cert.KernelArrays.routeG m c, ?_, ?_⟩
  · exact (θ_run Cert.KernelIdeal.defs _ _).mono
      (fun _ h c => ⟨fun i _ => congrFun (h c).1 i, fun i _ => congrFun (h c).2.1 i, (h c).2.2.1, (h c).2.2.2⟩)
      (Cert.KernelArrays.run m ρ)
  · refine (θ_run Cert.ReferenceIdeal.defs _ _).mono
      (fun r h c => ⟨fun i _ => ?_, fun i hi => ?_, (h c).2.2.1, (h c).2.2.2⟩) (Cert.ReferenceIdeal.Value.run (F := Ideal) m' ρ')
    · refine (congrFun (h c).1 i).trans ?_
      rw [(hagree c).1]
      rfl
    · refine (congrFun (h c).2.1 i).trans ?_
      rw [(hagree c).1, (hagree c).2]
      refine (reference_route _ _ i).trans ?_
      exact (rounds_eq_of_mask _ _ i hi).symm

/-- Everything the certificate claims. -/
theorem claim : Cert.Claim :=
  ⟨Cert.Kernel.Gen.facts, Cert.KernelIdeal.Gen.facts, Cert.ReferenceIdeal.Gen.facts, factsOn,
    fun m ρ _ => Cert.Kernel.Gen.frame m ρ, fun m ρ _ => Cert.KernelIdeal.Gen.frame m ρ, frame_reference, trivial, algebraic⟩

end Cert.Proof

end
